-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4736 : Shape := ⟨3, ![4, 2048, 4736]⟩
abbrev S4x2048 : Shape := ⟨2, ![4, 2048]⟩
abbrev S2368x1920 : Shape := ⟨2, ![2368, 1920]⟩
abbrev S37x1920 : Shape := ⟨2, ![37, 1920]⟩
abbrev S1920 : Shape := ⟨1, ![1920]⟩
abbrev S8192x4736 : Shape := ⟨2, ![8192, 4736]⟩
abbrev S8192x1 : Shape := ⟨2, ![8192, 1]⟩
abbrev S1x1920 : Shape := ⟨2, ![1, 1920]⟩
abbrev S8192x1920 : Shape := ⟨2, ![8192, 1920]⟩
abbrev S512x4736 : Shape := ⟨2, ![512, 4736]⟩
abbrev S512x1 : Shape := ⟨2, ![512, 1]⟩
abbrev S512x1920 : Shape := ⟨2, ![512, 1920]⟩
abbrev S4736x1920 : Shape := ⟨2, ![4736, 1920]⟩
abbrev S64x1920 : Shape := ⟨2, ![64, 1920]⟩
abbrev S16x1920 : Shape := ⟨2, ![16, 1920]⟩
abbrev S4x2048x1920 : Shape := ⟨3, ![4, 2048, 1920]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x4736, .i8⟩
  | .hbm, ⟨1, _⟩ => ⟨S4x2048, .f32⟩
  | .hbm, ⟨2, _⟩ => ⟨S2368x1920, .i8⟩
  | .hbm, ⟨3, _⟩ => ⟨S37x1920, .i8⟩
  | .hbm, ⟨4, _⟩ => ⟨S37x1920, .i8⟩
  | .hbm, ⟨5, _⟩ => ⟨S1920, .f32⟩
  | .hbm, ⟨6, _⟩ => ⟨S8192x4736, .i8⟩
  | .hbm, ⟨7, _⟩ => ⟨S8192x1, .f32⟩
  | .hbm, ⟨8, _⟩ => ⟨S1x1920, .f32⟩
  | .hbm, ⟨9, _⟩ => ⟨S8192x1920, .bf16⟩
  | .hbm, ⟨10, _⟩ => ⟨S4x2048x1920, .bf16⟩
  | .local _ .vmem, ⟨0, _⟩ => ⟨S512x4736, .i8⟩
  | .local _ .vmem, ⟨1, _⟩ => ⟨S512x4736, .i8⟩
  | .local _ .vmem, ⟨2, _⟩ => ⟨S512x1, .f32⟩
  | .local _ .vmem, ⟨3, _⟩ => ⟨S512x1, .f32⟩
  | .local _ .vmem, ⟨4, _⟩ => ⟨S2368x1920, .i8⟩
  | .local _ .vmem, ⟨5, _⟩ => ⟨S37x1920, .i8⟩
  | .local _ .vmem, ⟨6, _⟩ => ⟨S37x1920, .i8⟩
  | .local _ .vmem, ⟨7, _⟩ => ⟨S1x1920, .f32⟩
  | .local _ .vmem, ⟨8, _⟩ => ⟨S512x1920, .bf16⟩
  | .local _ .vmem, ⟨9, _⟩ => ⟨S512x1920, .bf16⟩
  | .local _ .vmem, ⟨10, _⟩ => ⟨S4736x1920, .bf16⟩
  | .local _ .vmem, ⟨11, _⟩ => ⟨S37x1920, .f32⟩
  | .local _ .vmem, ⟨12, _⟩ => ⟨S37x1920, .f32⟩
  | _, _ => ⟨S4x2048x4736, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c37_i32 : BitVec 32 := 37#32
  let v28 : BitVec 32 := Scalar.addi c0_i32_18 c37_i32
  let c1_i32 : BitVec 32 := 1#32
  ⟨c0_i32_18, v28, c1_i32⟩
def k0_off1 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c64_i32 : BitVec 32 := 64#32
  let v29 : BitVec 32 := Scalar.muli arg11 c64_i32
  let v30 : Index := Scalar.indexCast v29
  let c0_20 : Index := 0#32
  ![v30.toNat, 0]
def k0_off2 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c0_i32_22 : BitVec 32 := 0#32
  let v44 : BitVec 1 := Scalar.cmpi .sgt arg11 c0_i32_22
  let v45 : BitVec 32 := Scalar.extui v44
  let c0_i32_23 : BitVec 32 := 0#32
  let v46 : BitVec 1 := Scalar.cmpi .slt arg11 c0_i32_23
  let v47 : BitVec 32 := Scalar.extui v46
  let v48 : BitVec 32 := Scalar.subi v45 v47
  let c2_i32 : BitVec 32 := 2#32
  let c0_i32_24 : BitVec 32 := 0#32
  let v49 : BitVec 1 := Scalar.cmpi .sgt c2_i32 c0_i32_24
  let v50 : BitVec 32 := Scalar.extui v49
  let c0_i32_25 : BitVec 32 := 0#32
  let v51 : BitVec 1 := Scalar.cmpi .slt c2_i32 c0_i32_25
  let v52 : BitVec 32 := Scalar.extui v51
  let v53 : BitVec 32 := Scalar.subi v50 v52
  let v54 : BitVec 1 := Scalar.cmpi .ne v48 v53
  let v55 : BitVec 32 := Scalar.remsi arg11 c2_i32
  let c0_i32_26 : BitVec 32 := 0#32
  let v56 : BitVec 1 := Scalar.cmpi .ne v55 c0_i32_26
  let v57 : BitVec 1 := Scalar.andi v54 v56
  let v43 : BitVec 32 := Scalar.divsi arg11 c2_i32
  let c1_i32_27 : BitVec 32 := 1#32
  let v58 : BitVec 32 := Scalar.subi v43 c1_i32_27
  let v59 : BitVec 32 := Scalar.select v57 v58 v43
  let v60 : Index := Scalar.indexCast v59
  let c0_28 : Index := 0#32
  ![v60.toNat, 0]
def k0_off3 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c64_i32_30 : BitVec 32 := 64#32
  let v74 : BitVec 32 := Scalar.muli arg11 c64_i32_30
  let v75 : Index := Scalar.indexCast v74
  let c0_31 : Index := 0#32
  ![v75.toNat, 0]
def k0_off4 (k0_t1 : Fin k0_t1_loop.trips) : Fin 2 → Nat :=
  let c37_i32_32 : BitVec 32 := 37#32
  let c0_i32_18 : BitVec 32 := 0#32
  let c1_i32 : BitVec 32 := 1#32
  let arg11 : BitVec 32 := Scf.iv c0_i32_18 c1_i32 k0_t1
  let v79 : BitVec 32 := Scalar.addi c37_i32_32 arg11
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c2_i32_33 : BitVec 32 := 2#32
  let c0_i32_36 : BitVec 32 := 0#32
  let v86 : BitVec 1 := Scalar.cmpi .sgt c2_i32_33 c0_i32_36
  let v87 : BitVec 32 := Scalar.extui v86
  let c0_i32_37 : BitVec 32 := 0#32
  let v88 : BitVec 1 := Scalar.cmpi .slt c2_i32_33 c0_i32_37
  let v89 : BitVec 32 := Scalar.extui v88
  let v90 : BitVec 32 := Scalar.subi v87 v89
  let v91 : BitVec 1 := Scalar.cmpi .ne v85 v90
  let v92 : BitVec 32 := Scalar.remsi v79 c2_i32_33
  let c0_i32_38 : BitVec 32 := 0#32
  let v93 : BitVec 1 := Scalar.cmpi .ne v92 c0_i32_38
  let v94 : BitVec 1 := Scalar.andi v91 v93
  let v80 : BitVec 32 := Scalar.divsi v79 c2_i32_33
  let c1_i32_39 : BitVec 32 := 1#32
  let v95 : BitVec 32 := Scalar.subi v80 c1_i32_39
  let v96 : BitVec 32 := Scalar.select v94 v95 v80
  let v97 : Index := Scalar.indexCast v96
  let c0_40 : Index := 0#32
  ![v97.toNat, 0]
def k0_off5 (k0_t1 : Fin k0_t1_loop.trips) : Fin 2 → Nat :=
  let c2368_i32 : BitVec 32 := 2368#32
  let c0_i32_18 : BitVec 32 := 0#32
  let c1_i32 : BitVec 32 := 1#32
  let arg11 : BitVec 32 := Scf.iv c0_i32_18 c1_i32 k0_t1
  let c64_i32_42 : BitVec 32 := 64#32
  let v111 : BitVec 32 := Scalar.muli arg11 c64_i32_42
  let v112 : BitVec 32 := Scalar.addi c2368_i32 v111
  let v113 : Index := Scalar.indexCast v112
  let c0_43 : Index := 0#32
  ![v113.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4736 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2368x1920 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S37x1920 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S37x1920 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x2048x4736 : Shape := ⟨3, ![4, 2048, 4736]⟩
abbrev S4x2048 : Shape := ⟨2, ![4, 2048]⟩
abbrev S2368x1920 : Shape := ⟨2, ![2368, 1920]⟩
abbrev S37x1920 : Shape := ⟨2, ![37, 1920]⟩
abbrev S1920 : Shape := ⟨1, ![1920]⟩
abbrev S_ : Shape := ⟨0, ![]⟩
abbrev S4736x1920 : Shape := ⟨2, ![4736, 1920]⟩
abbrev S37x128x1920 : Shape := ⟨3, ![37, 128, 1920]⟩
abbrev S37x1x1920 : Shape := ⟨3, ![37, 1, 1920]⟩
abbrev S8192x4736 : Shape := ⟨2, ![8192, 4736]⟩
abbrev S8192x1 : Shape := ⟨2, ![8192, 1]⟩
abbrev S4736x1024 : Shape := ⟨2, ![4736, 1024]⟩
abbrev S8192x1024 : Shape := ⟨2, ![8192, 1024]⟩
abbrev S1024 : Shape := ⟨1, ![1024]⟩
abbrev S1x1024 : Shape := ⟨2, ![1, 1024]⟩
abbrev S4736x896 : Shape := ⟨2, ![4736, 896]⟩
abbrev S8192x896 : Shape := ⟨2, ![8192, 896]⟩
abbrev S896 : Shape := ⟨1, ![896]⟩
abbrev S1x896 : Shape := ⟨2, ![1, 896]⟩
abbrev S8192x1920 : Shape := ⟨2, ![8192, 1920]⟩
abbrev S4x2048x1920 : Shape := ⟨3, ![4, 2048, 1920]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x4736, .i8⟩
  | .hbm, ⟨1, _⟩ => ⟨S4x2048, .f32⟩
  | .hbm, ⟨2, _⟩ => ⟨S2368x1920, .i8⟩
  | .hbm, ⟨3, _⟩ => ⟨S37x1920, .i8⟩
  | .hbm, ⟨4, _⟩ => ⟨S37x1920, .i8⟩
  | .hbm, ⟨5, _⟩ => ⟨S1920, .f32⟩
  | .hbm, ⟨6, _⟩ => ⟨S2368x1920, .i32⟩
  | .hbm, ⟨7, _⟩ => ⟨S_, .i32⟩
  | .hbm, ⟨8, _⟩ => ⟨S2368x1920, .i32⟩
  | .hbm, ⟨9, _⟩ => ⟨S2368x1920, .i32⟩
  | .hbm, ⟨10, _⟩ => ⟨S2368x1920, .i32⟩
  | .hbm, ⟨11, _⟩ => ⟨S_, .i32⟩
  | .hbm, ⟨12, _⟩ => ⟨S2368x1920, .i32⟩
  | .hbm, ⟨13, _⟩ => ⟨S2368x1920, .i32⟩
  | .hbm, ⟨14, _⟩ => ⟨S4736x1920, .i32⟩
  | .hbm, ⟨15, _⟩ => ⟨S37x128x1920, .i32⟩
  | .hbm, ⟨16, _⟩ => ⟨S37x128x1920, .bf16⟩
  | .hbm, ⟨17, _⟩ => ⟨S37x1920, .i32⟩
  | .hbm, ⟨18, _⟩ => ⟨S37x1920, .bf16⟩
  | .hbm, ⟨19, _⟩ => ⟨S37x1x1920, .bf16⟩
  | .hbm, ⟨20, _⟩ => ⟨S37x1920, .i32⟩
  | .hbm, ⟨21, _⟩ => ⟨S37x1920, .bf16⟩
  | .hbm, ⟨22, _⟩ => ⟨S37x1x1920, .bf16⟩
  | .hbm, ⟨23, _⟩ => ⟨S37x128x1920, .bf16⟩
  | .hbm, ⟨24, _⟩ => ⟨S37x128x1920, .bf16⟩
  | .hbm, ⟨25, _⟩ => ⟨S37x128x1920, .bf16⟩
  | .hbm, ⟨26, _⟩ => ⟨S37x128x1920, .bf16⟩
  | .hbm, ⟨27, _⟩ => ⟨S4736x1920, .bf16⟩
  | .hbm, ⟨28, _⟩ => ⟨S8192x4736, .i8⟩
  | .hbm, ⟨29, _⟩ => ⟨S8192x4736, .i32⟩
  | .hbm, ⟨30, _⟩ => ⟨S8192x4736, .bf16⟩
  | .hbm, ⟨31, _⟩ => ⟨S8192x1, .f32⟩
  | .hbm, ⟨32, _⟩ => ⟨S4736x1024, .bf16⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S4736x896, .bf16⟩
  | .hbm, ⟨42, _⟩ => ⟨S8192x896, .f32⟩
  | .hbm, ⟨43, _⟩ => ⟨S8192x896, .f32⟩
  | .hbm, ⟨44, _⟩ => ⟨S8192x896, .f32⟩
  | .hbm, ⟨45, _⟩ => ⟨S896, .f32⟩
  | .hbm, ⟨46, _⟩ => ⟨S1x896, .f32⟩
  | .hbm, ⟨47, _⟩ => ⟨S8192x896, .f32⟩
  | .hbm, ⟨48, _⟩ => ⟨S8192x896, .f32⟩
  | .hbm, ⟨49, _⟩ => ⟨S8192x896, .bf16⟩
  | .hbm, ⟨50, _⟩ => ⟨S8192x1920, .bf16⟩
  | .hbm, ⟨51, _⟩ => ⟨S4x2048x1920, .bf16⟩
  | _, _ => ⟨S4x2048x4736, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Proof.Nibbles.lean ====
/-
  The two four-bit codes of a packed byte, as the kernel takes them: it reads four rows of bytes as one row of 32-bit
  words, masks the words (or shifts them right by four and then masks), and reads the words as bytes again. At every
  byte this is the byte's own low code, or its own high code.
-/
module

public import proofs.«01_k».proof.Proof.Gen.KernelIdeal.Skeleton
public import Idealize.ShloMosaic.Lib.BitcastFour
public import Idealize.ShloMosaic.Lib.BitcastPair
public import Idealize.ShloMosaic.Lib.Pointwise

@[expose] public section

set_option maxRecDepth 16384

noncomputable section

namespace Cert.KernelIdeal.Val

open Idealize.ShloMosaic Cert.KernelIdeal Cert.KernelIdeal.Gen

/-- The low code of a packed byte, bits 0 to 3, as an extended real. -/
def codeLo (b : BitVec 8) : EReal := (((b &&& 15#8).toNat : ℝ) : EReal)

/-- The high code of a packed byte, bits 4 to 7, as an extended real. -/
def codeHi (b : BitVec 8) : EReal := (((b >>> 4).toNat : ℝ) : EReal)

/-- A byte as an unsigned integer, as an extended real. -/
def byteVal (b : BitVec 8) : EReal := ((b.toNat : ℝ) : EReal)

/-- Which row of bytes bit `q` of the word in row `r / 4` at the place of byte row `r` comes from. -/
theorem word_row {r q : ℕ} (hq : q < 8) : 4 * (r / 4) + (r * 8 + q) % 32 / 8 = r := by omega

/-- The bits of the mask `0x0F0F0F0F`: in each byte the low four. -/
theorem mask_bit : ∀ q : Fin 32, (252645135#32).getLsbD q.val = decide (q.val % 8 < 4) := by decide

/-- Words read as bytes: bit `q` of byte row `r` is bit `(8 r + q) mod 32` of word row `r / 4`. -/
theorem byte_of_word (y : IVec S16x1920 32) (r : Fin 64) (l : Fin 1920) (q : ℕ) (hq : q < 8) :
    (bitcast S64x1920 8 y bitcasts_S16x1920_w32_S64x1920_w8 (ValueIdx.ix2 r l)).getLsbD q
      = (y (ValueIdx.ix2 (⟨r.val / 4, by omega⟩ : Fin 16) l)).getLsbD ((r.val * 8 + q) % 32) := by
  rw [bitcast_getLsbD _ _ _ q hq (by decide)]
  have hrow : S64x1920.row (ValueIdx.ix2 r l) = r.val := rfl
  congr 2
  · congr 1
    funext c
    match c with
    | ⟨0, _⟩ =>
      refine Fin.ext ((Shape.Bitcasts.srcIdx_row _ _ _ _ ⟨0, Nat.zero_lt_two⟩ rfl).trans ?_)
      show (S64x1920.row (ValueIdx.ix2 r l) * 8 + q) / 32 = r.val / 4
      rw [hrow]; omega
    | ⟨1, _⟩ => exact Fin.ext (Shape.Bitcasts.srcIdx_other _ _ _ _ ⟨1, Nat.one_lt_two⟩ (by show ¬ 1 + 2 = 2; omega))

/-- Masking the words keeps the low code of every byte. -/
theorem lo_byte (x : IVec S64x1920 8) (r : Fin 64) (l : Fin 1920) :
    bitcast S64x1920 8 (andi (bitcast S16x1920 32 x bitcasts_S64x1920_w8_S16x1920_w32) (broadcast S16x1920 252645135#32))
      bitcasts_S16x1920_w32_S64x1920_w8 (ValueIdx.ix2 r l) = x (ValueIdx.ix2 r l) &&& 15#8 := by
  apply BitVec.eq_of_getLsbD_eq
  intro q hq
  rw [byte_of_word _ r l q hq]
  show (bitcast S16x1920 32 x bitcasts_S64x1920_w8_S16x1920_w32 (ValueIdx.ix2 (⟨r.val / 4, by omega⟩ : Fin 16) l)
    &&& 252645135#32).getLsbD ((r.val * 8 + q) % 32) = _
  have hlt : (r.val * 8 + q) % 32 < 32 := Nat.mod_lt _ (by decide)
  rw [BitVec.getLsbD_and, BitVec.getLsbD_and, mask_bit ⟨_, hlt⟩,
    bitcast_8_32_getLsbD_ix2 x bitcasts_S64x1920_w8_S16x1920_w32 _ l _ hlt r (by show r.val = 4 * (r.val / 4) + _; omega)]
  have e : (r.val * 8 + q) % 32 % 8 = q := by omega
  show (_ && decide ((r.val * 8 + q) % 32 % 8 < 4)) = _
  rw [e]
  congr 1
  have : ∀ q : Fin 8, decide (q.val < 4) = (15#8).getLsbD q.val := by decide
  exact this ⟨q, hq⟩

/-- Shifting the words right by four and masking leaves the high code of every byte: what the shift brings in from the
    next byte, or from the sign, falls under the mask. -/
theorem hi_byte (x : IVec S64x1920 8) (r : Fin 64) (l : Fin 1920) :
    bitcast S64x1920 8 (andi (shrsi (bitcast S16x1920 32 x bitcasts_S64x1920_w8_S16x1920_w32) (broadcast S16x1920 4#32))
      (broadcast S16x1920 252645135#32)) bitcasts_S16x1920_w32_S64x1920_w8 (ValueIdx.ix2 r l) = x (ValueIdx.ix2 r l) >>> 4 := by
  apply BitVec.eq_of_getLsbD_eq
  intro q hq
  rw [byte_of_word _ r l q hq]
  show ((bitcast S16x1920 32 x bitcasts_S64x1920_w8_S16x1920_w32 (ValueIdx.ix2 (⟨r.val / 4, by omega⟩ : Fin 16) l)).sshiftRight 4
    &&& 252645135#32).getLsbD ((r.val * 8 + q) % 32) = _
  have hlt : (r.val * 8 + q) % 32 < 32 := Nat.mod_lt _ (by decide)
  rw [BitVec.getLsbD_and, mask_bit ⟨_, hlt⟩, BitVec.getLsbD_ushiftRight, BitVec.getLsbD_sshiftRight]
  have e : (r.val * 8 + q) % 32 % 8 = q := by omega
  show (_ && decide ((r.val * 8 + q) % 32 % 8 < 4)) = _
  rw [e]
  by_cases h4 : q < 4
  · have hlt' : 4 + (r.val * 8 + q) % 32 < 32 := by omega
    rw [if_pos hlt',
      bitcast_8_32_getLsbD_ix2 x bitcasts_S64x1920_w8_S16x1920_w32 _ l _ hlt' r (by show r.val = 4 * (r.val / 4) + _; omega)]
    have e' : (4 + (r.val * 8 + q) % 32) % 8 = 4 + q := by omega
    simp [e', h4, hlt]
  · have hz : (x (ValueIdx.ix2 r l)).getLsbD (4 + q) = false := BitVec.getLsbD_of_ge _ _ (by omega)
    rw [hz]; simp [h4]

/-- The low code, read as a signed byte, is a natural number below 16: its sign bit is zero. -/
theorem toInt_lo (b : BitVec 8) : (b &&& 15#8).toInt = ((b &&& 15#8).toNat : ℤ) := by revert b; decide

/-- The high code likewise. -/
theorem toInt_hi (b : BitVec 8) : (b >>> 4).toInt = ((b >>> 4).toNat : ℤ) := by revert b; decide

/-- Four copies of a row spread over 16 rows, one under the other, at the ideal numbers: the row, at every row. -/
theorem spread (v : FVec Ideal S1x1920 .f32) (r : Fin 64) (l : Fin 1920) :
    concatenate S64x1920 0
      [⟨S16x1920, truncf .bf16 (broadcastTo S16x1920 (shapeCast S1x1920 v shapeCasts_S1x1920_S1x1920) broadcasts_S1x1920_S16x1920) bitsLt_bf16_f32⟩,
       ⟨S16x1920, truncf .bf16 (broadcastTo S16x1920 (shapeCast S1x1920 v shapeCasts_S1x1920_S1x1920) broadcasts_S1x1920_S16x1920) bitsLt_bf16_f32⟩,
       ⟨S16x1920, truncf .bf16 (broadcastTo S16x1920 (shapeCast S1x1920 v shapeCasts_S1x1920_S1x1920) broadcasts_S1x1920_S16x1920) bitsLt_bf16_f32⟩,
       ⟨S16x1920, truncf .bf16 (broadcastTo S16x1920 (shapeCast S1x1920 v shapeCasts_S1x1920_S1x1920) broadcasts_S1x1920_S16x1920) bitsLt_bf16_f32⟩]
      concatenates_S16x1920_S16x1920_S16x1920_S16x1920_S64x1920_d0 (ValueIdx.ix2 r l) = (v (ValueIdx.ix2 0 l) : Ideal .f32) := by
  rw [shapeCast_self]
  show _ = v (ix2 0 l)
  pointwise
  split_ifs <;> rfl

/-- The block of 64 weight rows the kernel makes from low codes: code times scale less zero term, at every row and column. -/
theorem pay_lo (v31 : Vec Ideal S64x1920 .i8) (v61 v65 : Vec Ideal S1x1920 .f32) (r : Fin 64) (l : Fin 1920) :
    k0_pay7 (k0_pay6 v31 v61 v65) (ValueIdx.ix2 r l)
      = codeLo (v31 (ValueIdx.ix2 r l)) * v61 (ValueIdx.ix2 0 l) - v65 (ValueIdx.ix2 0 l) := by
  have hs := spread v61 r l
  have hz := spread v65 r l
  have h := lo_byte v31 r l
  unfold k0_pay7 k0_pay6 k0_pay4
  rw [shapeCast_self]
  dsimp only
  show (((bitcast S64x1920 8 _ _ (ValueIdx.ix2 r l) : BitVec 8).toInt : ℝ) : EReal) * concatenate S64x1920 0 _ _ _ - concatenate S64x1920 0 _ _ _ = _
  rw [hs, hz, h, toInt_lo]
  rfl

/-- The block of 64 weight rows the kernel makes from high codes. -/
theorem pay_hi (v31 : Vec Ideal S64x1920 .i8) (v98 v102 : Vec Ideal S1x1920 .f32) (r : Fin 64) (l : Fin 1920) :
    k0_pay8 (k0_pay5 v31) v98 v102 (ValueIdx.ix2 r l)
      = codeHi (v31 (ValueIdx.ix2 r l)) * v98 (ValueIdx.ix2 0 l) - v102 (ValueIdx.ix2 0 l) := by
  have hs := spread v98 r l
  have hz := spread v102 r l
  have h := hi_byte v31 r l
  unfold k0_pay8 k0_pay5 k0_pay4
  dsimp only
  rw [shapeCast_self (s := S64x1920)]
  show (((bitcast S64x1920 8 _ _ (ValueIdx.ix2 r l) : BitVec 8).toInt : ℝ) : EReal) * concatenate S64x1920 0 _ _ _ - concatenate S64x1920 0 _ _ _ = _
  rw [hs, hz, h, toInt_hi]
  rfl

end Cert.KernelIdeal.Val

end
-- ==== Proof.Trip.lean ====
/-
  The weights the kernel keeps in its scratch buffer: after the 37 trips of the loop at the first grid point the buffer
  holds, at every row and column, the code of that row times the scale of its group of 128 rows, less the group's zero
  term. Rows below 2368 take the low codes of the packed rows, the others the high codes.
-/
module

public import proofs.«01_k».proof.Proof.Gen.KernelIdeal.Frame
public import proofs.«01_k».proof.Proof.Nibbles
public import Idealize.ShloMosaic.Lib.Pipeline.Value

@[expose] public section

set_option maxRecDepth 16384

noncomputable section

namespace Cert.KernelIdeal.Val

open Idealize.ShloMosaic Idealize.ShloMosaic.TcCoe Idealize.SL.Sem Cert.KernelIdeal Cert.KernelIdeal.Gen

section Pieces

variable {F : FTy → Type} [FloatOps F]

/-- The two pieces one trip stores: the rows of low codes and the rows of high codes, made of the 64 packed rows the trip
    loads and of one row each of scales and zero terms. -/
theorem tripL_eq (𝒱 : Variants) (c : Dev nD) (bd : Option 𝒱.V) (i : grid0.Coords) (arg1 : Memref sig .tc .vmem S512x4736 .i8) (harg1 : arg1.IsWhole) (arg2 : Memref sig .tc .vmem S512x1 .f32) (harg2 : arg2.IsWhole) (arg3 : Memref sig .tc .vmem S2368x1920 .i8) (harg3 : arg3.IsWhole) (arg4 : Memref sig .tc .vmem S37x1920 .i8) (harg4 : arg4.IsWhole) (arg5 : Memref sig .tc .vmem S37x1920 .i8) (harg5 : arg5.IsWhole) (arg6 : Memref sig .tc .vmem S1x1920 .f32) (harg6 : arg6.IsWhole) (arg7 : Memref sig .tc .vmem S512x1920 .bf16) (harg7 : arg7.IsWhole) (arg8 : Memref sig .tc .vmem S4736x1920 .bf16) (harg8 : arg8.IsWhole) (arg9 : Memref sig .tc .vmem S37x1920 .f32) (harg9 : arg9.IsWhole) (arg10 : Memref sig .tc .vmem S37x1920 .f32) (harg10 : arg10.IsWhole) (k0_h1 : k0_cond1 i = 1#1) (X_arg3 : BufTy.Contents (Elt F) arg3.view.ty) (X_arg9 : BufTy.Contents (Elt F) arg9.view.ty) (X_arg10 : BufTy.Contents (Elt F) arg10.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 k0_h1 X_arg3 X_arg9 X_arg10 k
      = [⟨Rect.unit (s := S4736x1920) (k0_off5 k) S64x1920.size (k0_off5_inb i k k0_h1),
          k0_pay8 (k0_pay5 (arg3.view.readAt (Elt F) (Rect.unit (s := S2368x1920) (k0_off1 k) S64x1920.size (k0_off1_inb i k k0_h1)).toLoadRect X_arg3))
            (arg9.view.readAt (Elt F) (Rect.unit (s := S37x1920) (k0_off4 k) S1x1920.size (k0_off4_inb i k k0_h1)).toLoadRect X_arg9)
            (arg10.view.readAt (Elt F) (Rect.unit (s := S37x1920) (k0_off4 k) S1x1920.size (k0_off4_inb i k k0_h1)).toLoadRect X_arg10)⟩,
         ⟨Rect.unit (s := S4736x1920) (k0_off3 k) S64x1920.size (k0_off3_inb i k k0_h1),
          k0_pay7 (k0_pay6 (arg3.view.readAt (Elt F) (Rect.unit (s := S2368x1920) (k0_off1 k) S64x1920.size (k0_off1_inb i k k0_h1)).toLoadRect X_arg3)
            (arg9.view.readAt (Elt F) (Rect.unit (s := S37x1920) (k0_off2 k) S1x1920.size (k0_off2_inb i k k0_h1)).toLoadRect X_arg9)
            (arg10.view.readAt (Elt F) (Rect.unit (s := S37x1920) (k0_off2 k) S1x1920.size (k0_off2_inb i k k0_h1)).toLoadRect X_arg10))⟩] := by
  unfold tripL_k0_t1 trip_k0_t1
  rfl

end Pieces

theorem hz : (![0, 0] : Fin 2 → Nat) = fun _ => 0 := funext fun a => by fin_cases a <;> rfl

/-- The row of scales a trip loads for its low codes is row `k / 2`. -/
theorem off2_eq : ∀ k : Fin k0_t1_loop.trips, k0_off2 k = ![k.val / 2, 0] := by decide +kernel

/-- The weight at row `j 0` and column `j 1`: code times scale less zero term, from the packed codes `x2`, the groups'
    scales `x3` and the groups' zero terms `x4`. -/
def weight (x2 : Vec Ideal S2368x1920 .i8) (x3 x4 : Vec Ideal S37x1920 .i8) : Vec Ideal S4736x1920 .bf16 := fun j =>
  if h : (j 0).val < 2368 then
    codeLo (x2 (ix2 ⟨(j 0).val, h⟩ (j 1)))
      * byteVal (x3 (ix2 ⟨(j 0).val / 128, by have : (j 0).val < 4736 := (j 0).isLt; omega⟩ (j 1)))
      - byteVal (x4 (ix2 ⟨(j 0).val / 128, by have : (j 0).val < 4736 := (j 0).isLt; omega⟩ (j 1)))
  else
    codeHi (x2 (ix2 ⟨(j 0).val - 2368, by have : (j 0).val < 4736 := (j 0).isLt; omega⟩ (j 1)))
      * byteVal (x3 (ix2 ⟨(j 0).val / 128, by have : (j 0).val < 4736 := (j 0).isLt; omega⟩ (j 1)))
      - byteVal (x4 (ix2 ⟨(j 0).val / 128, by have : (j 0).val < 4736 := (j 0).isLt; omega⟩ (j 1)))

/-- Where element `(r, l)` of a box of `m` rows starting at row `o` lies in the whole. -/
theorem idx_rows {N n m : ℕ} (off : Fin 2 → Nat) (o : ℕ) (ho : off = ![o, 0])
    (inb : ∀ a, off a + (⟨2, ![m, n]⟩ : Shape).size a ≤ (⟨2, ![N, n]⟩ : Shape).size a) (r : Fin m) (l : Fin n) (h : o + r.val < N) :
    (Rect.unit (s := ⟨2, ![N, n]⟩) off (⟨2, ![m, n]⟩ : Shape).size inb).emb (ix2 r l) = ix2 ⟨o + r.val, h⟩ l := by
  subst ho
  funext a
  refine Fin.ext ?_
  rw [Rect.emb_apply]
  match a with
  | ⟨0, _⟩ => show o + 1 * r.val = o + r.val; omega
  | ⟨1, _⟩ => show 0 + 1 * l.val = l.val; omega

section Trips

variable (arg3 : Memref sig .tc .vmem S2368x1920 .i8) (harg3 : arg3.IsWhole)
  (arg4 : Memref sig .tc .vmem S37x1920 .i8) (harg4 : arg4.IsWhole)
  (arg9 : Memref sig .tc .vmem S37x1920 .f32)
  (x2 : Vec Ideal S2368x1920 .i8) (x3 : Vec Ideal S37x1920 .i8)

/-- The packed rows a trip loads, element by element. -/
theorem read3 (off : Fin 2 → Nat) (o : ℕ) (ho : off = ![o, 0]) (inb) (r : Fin 64) (l : Fin 1920) (h : o + r.val < 2368) :
    arg3.view.readAt (Elt Ideal) (Rect.unit (s := S2368x1920) off S64x1920.size inb).toLoadRect (harg3.unread x2) (ix2 r l)
      = x2 (ix2 ⟨o + r.val, h⟩ l) := by
  rw [View.readAt_eq_ld, harg3.read_unread]
  exact congrArg x2 (idx_rows off o ho inb r l h)

/-- The staged scales (or zero terms), row `o`, element by element: the stored byte as a number. -/
theorem read9 (off : Fin 2 → Nat) (o : ℕ) (ho : off = ![o, 0]) (inb) (inb0) (l : Fin 1920) (h : o < 37) (pay : Vec Ideal S37x1920 .i8 → FVec Ideal S37x1920 .f32)
    (hpay : pay = k0_pay1) :
    arg9.view.readAt (Elt Ideal) (Rect.unit (s := S37x1920) off S1x1920.size inb).toLoadRect
        (arg9.view.writes (Elt Ideal) arg9.view.junk [⟨Rect.unit (s := S37x1920) ![0, 0] S37x1920.size inb0,
          pay (arg4.view.readAt (Elt Ideal) (Rect.unit (s := S37x1920) ![0, 0] S37x1920.size inb0).toLoadRect (harg4.unread x3))⟩]) (ix2 0 l)
      = byteVal (x3 (ix2 ⟨o, h⟩ l)) := by
  subst hpay
  rw [View.readAt_writes_junk_eq_canon, View.canon_unit_zero hz]
  rw [View.readAt_eq_ld, harg4.read_unread, View.ld_unit_zero (S := S37x1920) hz]
  unfold k0_pay1
  dsimp only
  rw [shapeCast_self]
  exact congrArg (fun j => byteVal (x3 j)) (idx_rows off o ho inb 0 l h)

end Trips

end Cert.KernelIdeal.Val

end
-- ==== Proof.Scratch.lean ====
/-
  What one grid point leaves: the first point fills the scratch buffer with the weights and multiplies by them, every
  later point finds them there and multiplies by them.
-/
module

public import proofs.«01_k».proof.Proof.Trip

@[expose] public section

set_option maxRecDepth 16384

noncomputable section

namespace Cert.KernelIdeal.Val

open Idealize.ShloMosaic Idealize.ShloMosaic.TcCoe Idealize.SL.Sem Cert.KernelIdeal Cert.KernelIdeal.Gen

/-- The low-code block at a row and column. -/
theorem pay_lo' (v31 : Vec Ideal S64x1920 .i8) (v61 v65 : Vec Ideal S1x1920 .f32) (r : Fin 64) (l : Fin 1920) :
    k0_pay7 (k0_pay6 v31 v61 v65) (ix2 r l) = codeLo (v31 (ix2 r l)) * v61 (ix2 0 l) - v65 (ix2 0 l) := by
  simp only [ix2_eq_valueIdx]; exact pay_lo v31 v61 v65 r l

/-- The high-code block at a row and column. -/
theorem pay_hi' (v31 : Vec Ideal S64x1920 .i8) (v98 v102 : Vec Ideal S1x1920 .f32) (r : Fin 64) (l : Fin 1920) :
    k0_pay8 (k0_pay5 v31) v98 v102 (ix2 r l) = codeHi (v31 (ix2 r l)) * v98 (ix2 0 l) - v102 (ix2 0 l) := by
  simp only [ix2_eq_valueIdx]; exact pay_hi v31 v98 v102 r l

/-- The weight at a row below 2368, in a group named by its number. -/
theorem weight_lo (x2 : Vec Ideal S2368x1920 .i8) (x3 x4 : Vec Ideal S37x1920 .i8) (p : Fin 4736) (l : Fin 1920)
    (q : Fin 2368) (g : Fin 37) (hq : q.val = p.val) (hg : g.val = p.val / 128) :
    weight x2 x3 x4 (ix2 p l) = codeLo (x2 (ix2 q l)) * byteVal (x3 (ix2 g l)) - byteVal (x4 (ix2 g l)) := by
  have hlt : p.val < 2368 := hq ▸ q.isLt
  have eq : q = ⟨p.val, hlt⟩ := Fin.ext hq
  have eg : g = ⟨p.val / 128, by omega⟩ := Fin.ext hg
  rw [eq, eg]
  exact dif_pos hlt

/-- The weight at a row from 2368 on. -/
theorem weight_hi (x2 : Vec Ideal S2368x1920 .i8) (x3 x4 : Vec Ideal S37x1920 .i8) (p : Fin 4736) (l : Fin 1920)
    (q : Fin 2368) (g : Fin 37) (hq : q.val + 2368 = p.val) (hg : g.val = p.val / 128) :
    weight x2 x3 x4 (ix2 p l) = codeHi (x2 (ix2 q l)) * byteVal (x3 (ix2 g l)) - byteVal (x4 (ix2 g l)) := by
  have hlt : ¬ p.val < 2368 := by omega
  have eq : q = ⟨p.val - 2368, by omega⟩ := Fin.ext (by show q.val = p.val - 2368; omega)
  have eg : g = ⟨p.val / 128, by omega⟩ := Fin.ext hg
  rw [eq, eg]
  exact dif_neg hlt

section Point

variable (c : Dev nD) (i : grid0.Coords) (arg1 : Memref sig .tc .vmem S512x4736 .i8) (harg1 : arg1.IsWhole) (arg2 : Memref sig .tc .vmem S512x1 .f32) (harg2 : arg2.IsWhole) (arg3 : Memref sig .tc .vmem S2368x1920 .i8) (harg3 : arg3.IsWhole) (arg4 : Memref sig .tc .vmem S37x1920 .i8) (harg4 : arg4.IsWhole) (arg5 : Memref sig .tc .vmem S37x1920 .i8) (harg5 : arg5.IsWhole) (arg6 : Memref sig .tc .vmem S1x1920 .f32) (harg6 : arg6.IsWhole) (arg7 : Memref sig .tc .vmem S512x1920 .bf16) (harg7 : arg7.IsWhole) (arg8 : Memref sig .tc .vmem S4736x1920 .bf16) (harg8 : arg8.IsWhole) (arg9 : Memref sig .tc .vmem S37x1920 .f32) (harg9 : arg9.IsWhole) (arg10 : Memref sig .tc .vmem S37x1920 .f32) (harg10 : arg10.IsWhole)

/-- The pieces stored by the trips before `k`, the packed codes, scales and zero terms being `x2`, `x3`, `x4`. -/
abbrev pieces (hc0 : k0_cond1 i = 1#1) (x2 : Vec Ideal S2368x1920 .i8) (x3 x4 : Vec Ideal S37x1920 .i8) (k : ℕ) :
    List (View.Piece (Elt Ideal) S4736x1920 .bf16) :=
  pb_k0_t1 Variants.none c none i arg1 harg1 arg2 harg2 arg3 harg3 arg4 harg4 arg5 harg5 arg6 harg6 arg7 harg7 arg8 harg8 arg9 harg9 arg10 harg10 hc0 (harg3.unread x2)
    (arg9.view.writes (Elt Ideal) arg9.view.junk [⟨Rect.unit (s := S37x1920) ![0, 0] S37x1920.size inb_S37x1920_S37x1920_0_0,
      k0_pay1 (arg4.view.readAt (Elt Ideal) (Rect.unit (s := S37x1920) ![0, 0] S37x1920.size inb_S37x1920_S37x1920_0_0).toLoadRect (harg4.unread x3))⟩])
    (arg10.view.writes (Elt Ideal) arg10.view.junk [⟨Rect.unit (s := S37x1920) ![0, 0] S37x1920.size inb_S37x1920_S37x1920_0_0,
      k0_pay2 (arg5.view.readAt (Elt Ideal) (Rect.unit (s := S37x1920) ![0, 0] S37x1920.size inb_S37x1920_S37x1920_0_0).toLoadRect (harg5.unread x4))⟩]) k

/-- Every piece stored by the trips before `k` holds the weights of its own rows. -/
theorem pieces_weight (hc0 : k0_cond1 i = 1#1) (x2 : Vec Ideal S2368x1920 .i8) (x3 x4 : Vec Ideal S37x1920 .i8) :
    ∀ k : ℕ, k ≤ k0_t1_loop.trips →
      ∀ p ∈ pieces c i arg1 harg1 arg2 harg2 arg3 harg3 arg4 harg4 arg5 harg5 arg6 harg6 arg7 harg7 arg8 harg8 arg9 harg9 arg10 harg10 hc0 x2 x3 x4 k,
        ∀ x : p.1.shape.Idx, p.2 x = weight x2 x3 x4 (p.1.emb x)
  | 0, _, p, hp => by
    rw [show pieces c i arg1 harg1 arg2 harg2 arg3 harg3 arg4 harg4 arg5 harg5 arg6 harg6 arg7 harg7 arg8 harg8 arg9 harg9 arg10 harg10 hc0 x2 x3 x4 0 = [] from rfl] at hp
    exact absurd hp List.not_mem_nil
  | k + 1, hk, p, hp => by
    have h37 : k < 37 := Nat.lt_of_lt_of_le hk k0_t1_abs.2.1
    have hs := pb_k0_t1_succ (F := Ideal) Variants.none c none i arg1 harg1 arg2 harg2 arg3 harg3 arg4 harg4 arg5 harg5 arg6 harg6 arg7 harg7 arg8 harg8 arg9 harg9 arg10 harg10 hc0 (harg3.unread x2)
      (arg9.view.writes (Elt Ideal) arg9.view.junk [⟨Rect.unit (s := S37x1920) ![0, 0] S37x1920.size inb_S37x1920_S37x1920_0_0,
        k0_pay1 (arg4.view.readAt (Elt Ideal) (Rect.unit (s := S37x1920) ![0, 0] S37x1920.size inb_S37x1920_S37x1920_0_0).toLoadRect (harg4.unread x3))⟩])
      (arg10.view.writes (Elt Ideal) arg10.view.junk [⟨Rect.unit (s := S37x1920) ![0, 0] S37x1920.size inb_S37x1920_S37x1920_0_0,
        k0_pay2 (arg5.view.readAt (Elt Ideal) (Rect.unit (s := S37x1920) ![0, 0] S37x1920.size inb_S37x1920_S37x1920_0_0).toLoadRect (harg5.unread x4))⟩]) ⟨k, hk⟩
    rw [tripL_eq] at hs
    unfold pieces at hp
    rw [hs] at hp
    rcases List.mem_append.mp hp with hp | hp
    · rcases List.mem_cons.mp hp with rfl | hp
      · intro x
        obtain ⟨r, l, rfl⟩ : ∃ (r : Fin 64) (l : Fin 1920), x = ix2 r l := ⟨x 0, x 1, eq_ix2 x⟩
        dsimp only
        rw [idx_rows _ _ (k0_off5_eq ⟨k, hk⟩) _ r l (by dsimp only; omega)]
        rw [pay_hi', read3 arg3 harg3 x2 _ _ (k0_off1_eq ⟨k, hk⟩) _ r l (by dsimp only; omega),
          read9 arg4 harg4 arg9 x3 _ _ (k0_off4_eq ⟨k, hk⟩) _ _ l (by dsimp only; omega) k0_pay1 rfl,
          read9 arg5 harg5 arg10 x4 _ _ (k0_off4_eq ⟨k, hk⟩) _ _ l (by dsimp only; omega) k0_pay2 rfl]
        exact (weight_hi x2 x3 x4 _ l _ _ (by dsimp only; omega) (by dsimp only; omega)).symm
      · obtain rfl := List.mem_singleton.mp hp
        intro x
        obtain ⟨r, l, rfl⟩ : ∃ (r : Fin 64) (l : Fin 1920), x = ix2 r l := ⟨x 0, x 1, eq_ix2 x⟩
        dsimp only
        rw [idx_rows _ _ (k0_off3_eq ⟨k, hk⟩) _ r l (by dsimp only; omega)]
        rw [pay_lo', read3 arg3 harg3 x2 _ _ (k0_off1_eq ⟨k, hk⟩) _ r l (by dsimp only; omega),
          read9 arg4 harg4 arg9 x3 _ _ (off2_eq ⟨k, hk⟩) _ _ l (by dsimp only; omega) k0_pay1 rfl,
          read9 arg5 harg5 arg10 x4 _ _ (off2_eq ⟨k, hk⟩) _ _ l (by dsimp only; omega) k0_pay2 rfl]
        exact (weight_lo x2 x3 x4 _ l _ _ (by dsimp only) (by dsimp only; omega)).symm
    · exact pieces_weight hc0 x2 x3 x4 k (Nat.le_of_succ_le hk) p hp

variable (x0 : Vec Ideal S512x4736 .i8) (x1 : Vec Ideal S512x1 .f32) (x2 : Vec Ideal S2368x1920 .i8)
  (x3 x4 : Vec Ideal S37x1920 .i8) (x5 : Vec Ideal S1x1920 .f32)

include x0 x1 x5 in
/-- What the trips' pieces hold together: the weights. -/
theorem canon_weight (hc0 : cond0_0 i) :
    View.canon (pieces c i arg1 harg1 arg2 harg2 arg3 harg3 arg4 harg4 arg5 harg5 arg6 harg6 arg7 harg7 arg8 harg8 arg9 harg9 arg10 harg10 hc0 x2 x3 x4
      (Scf.trips k0_t1_loop.lb k0_t1_loop.ub k0_t1_loop.st)) = weight x2 x3 x4 := by
  funext y
  refine View.canon_apply_of_pieces _ _ (pieces_weight c i arg1 harg1 arg2 harg2 arg3 harg3 arg4 harg4 arg5 harg5 arg6 harg6 arg7 harg7 arg8 harg8 arg9 harg9 arg10 harg10 hc0 x2 x3 x4 _ (Nat.le_refl _)) y ?_
  have h := scover0_A_0 c i arg1 harg1 arg2 harg2 arg3 harg3 arg4 harg4 arg5 harg5 arg6 harg6 arg7 harg7 arg8 harg8 arg9 harg9 arg10 harg10 hc0 x0 x1 x2 x3 x4 x5 y
  revert h
  unfold kernelRun0_A
  dsimp only
  sl_unfold_words
  exact id

/-- The first point leaves the weights in the scratch buffer. -/
theorem sout_A (hc0 : cond0_0 i) :
    sout0_A_0 c i arg1 harg1 arg2 harg2 arg3 harg3 arg4 harg4 arg5 harg5 arg6 harg6 arg7 harg7 arg8 harg8 arg9 harg9 arg10 harg10 hc0 x0 x1 x2 x3 x4 x5 = weight x2 x3 x4 := by
  unfold sout0_A_0
  rw [View.read_writes_junk_eq_canon]
  unfold kernelRun0_A
  dsimp only
  sl_unfold_words
  exact canon_weight c i arg1 harg1 arg2 harg2 arg3 harg3 arg4 harg4 arg5 harg5 arg6 harg6 arg7 harg7 arg8 harg8 arg9 harg9 arg10 harg10 x0 x1 x2 x3 x4 x5 hc0

/-- The first point's output block: the scaled product of its rows with the weights. -/
theorem out_A (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5
      = k0_pay3 x0 (weight x2 x3 x4) x1 x5 := by
  unfold out0_A_6
  rw [View.read_writes_junk_eq_canon]
  unfold kernelRun0_A
  dsimp only
  sl_unfold_words
  rw [View.canon_unit_zero (S := S512x1920) hz, View.readCov_eq_canon']
  have hw := canon_weight c i arg1 harg1 arg2 harg2 arg3 harg3 arg4 harg4 arg5 harg5 arg6 harg6 arg7 harg7 arg8 harg8 arg9 harg9 arg10 harg10 x0 x1 x2 x3 x4 x5 hc0
  simp only [View.readAt_eq_ld, harg1.read_unread, harg2.read_unread, harg6.read_unread,
    View.ld_unit_zero (S := S512x4736) hz, View.ld_unit_zero (S := S512x1) hz, View.ld_unit_zero (S := S1x1920) hz]
  congr 1
  refine Eq.trans ?_ (View.ld_unit_zero (S := S4736x1920) hz inb_S4736x1920_S4736x1920_0_0 (weight x2 x3 x4))
  rw [← hw]
  rfl

/-- A later point's output block, the scratch buffer holding `xs0`. -/
theorem out_B (hc0 : ¬cond0_0 i) (xs0 : Vec Ideal S4736x1920 .bf16) :
    out0_B_6 c i arg1 harg1 arg2 harg2 arg3 harg3 arg4 harg4 arg5 harg5 arg6 harg6 arg7 harg7 arg8 harg8 arg9 harg9 arg10 harg10 hc0 x0 x1 x2 x3 x4 x5 xs0
      = k0_pay3 x0 xs0 x1 x5 := by
  unfold out0_B_6
  rw [View.read_writes_junk_eq_canon]
  unfold kernelRun0_B
  dsimp only
  rw [View.canon_unit_zero (S := S512x1920) hz]
  simp only [View.readAt_eq_ld, harg1.read_unread, harg2.read_unread, harg6.read_unread, harg8.read_unread,
    View.ld_unit_zero (S := S512x4736) hz, View.ld_unit_zero (S := S512x1) hz, View.ld_unit_zero (S := S1x1920) hz,
    View.ld_unit_zero (S := S4736x1920) hz]

end Point

end Cert.KernelIdeal.Val

end
-- ==== Proof.Value.lean ====
/-
  What the kernel's program computes: the result array ends holding the product of the activations with the
  dequantized weights, each row times its own scale and each column times its own scale.
-/
module

public import proofs.«01_k».proof.Proof.Scratch
public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Claim

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat)

/-- The scaled product: row `r`, column `n` is the sum over `k` of the activation times the weight, times the row's
    scale, times the column's scale. -/
def product (x : Vec Ideal S8192x4736 .i8) (xs : Vec Ideal S8192x1 .f32) (p : Vec Ideal S2368x1920 .i8)
    (gs gz : Vec Ideal S37x1920 .i8) (cs : Vec Ideal S1x1920 .f32) : Vec Ideal S8192x1920 .bf16 :=
  fun j => ((∑ k : Fin 4736, (((x (ix2 (j 0) k)).toInt : ℝ) : EReal) * weight p gs gz (ix2 k (j 1)))
    * xs (ix2 (j 0) (0 : Fin 1))) * cs (ix2 (0 : Fin 1) (j 1))

/-- The block a point stores, at a row and column. -/
theorem pay3_apply (x : Vec Ideal S512x4736 .i8) (w : Vec Ideal S4736x1920 .bf16) (xs : Vec Ideal S512x1 .f32)
    (cs : Vec Ideal S1x1920 .f32) (r : Fin 512) (l : Fin 1920) :
    k0_pay3 x w xs cs (ix2 r l)
      = ((∑ k : Fin 4736, (((x (ix2 r k)).toInt : ℝ) : EReal) * w (ix2 k l)) * xs (ix2 r (0 : Fin 1)))
        * cs (ix2 (0 : Fin 1) l) := by
  pointwise [k0_pay3]
  rfl

variable (m : (ℓ : Loc nD τ sig) → Buf (Elt Ideal) ℓ) (ρ : Dev nD → PrngReg)

/-- A point's grid coordinate is its number. -/
theorem coord (t : Fin cfg0.N) : (BitVec.ofNat 32 (grid0.coords t 0).val).toNat = t.val := by
  have hN : cfg0.N = 16 := N_0
  have ht := t.isLt
  have e : (grid0.coords t 0).val = t.val := by
    have h' : (grid0.coords t 0).val = t.val / 1 % 16 := Pipeline.Grid.coords_val t 0 (by decide) rfl
    omega
  rw [e, BitVec.toNat_ofNat]
  omega

/-- The activations' block at a point: rows 512 t to 512 t + 511. -/
theorem iblk0 (c : Dev nD) (t : Fin cfg0.N) (r : Fin 512) (k : Fin 4736) (R : Fin 8192) (hR : R.val = 512 * t.val + r.val) :
    (iblk m c 0 t : Vec Ideal S512x4736 .i8) (ix2 r k) = (V m c main_v0 : Vec Ideal S8192x4736 .i8) (ix2 R k) := by
  have hi : win0_0.index t 0 = t.val := coord t
  have hj : win0_0.index t 1 = 0 := rfl
  unfold iblk
  rw [View.read_apply]
  show V m c main_v0 _ = V m c main_v0 _
  congr 1
  funext a
  apply Fin.ext
  match a with
  | ⟨0, _⟩ => show win0_0.index t 0 * 512 + 1 * r.val = R.val; rw [hi]; omega
  | ⟨1, _⟩ => show win0_0.index t 1 * 4736 + 1 * k.val = k.val; rw [hj]; omega

/-- The row scales' block at a point: rows 512 t to 512 t + 511. -/
theorem iblk1 (c : Dev nD) (t : Fin cfg0.N) (r : Fin 512) (R : Fin 8192) (hR : R.val = 512 * t.val + r.val) :
    (iblk m c 1 t : Vec Ideal S512x1 .f32) (ix2 r (0 : Fin 1)) = (V m c main_v1 : Vec Ideal S8192x1 .f32) (ix2 R (0 : Fin 1)) := by
  have hi : win0_1.index t 0 = t.val := coord t
  have hj : win0_1.index t 1 = 0 := rfl
  unfold iblk
  rw [View.read_apply]
  show V m c main_v1 _ = V m c main_v1 _
  congr 1
  funext a
  apply Fin.ext
  match a with
  | ⟨0, _⟩ => show win0_1.index t 0 * 512 + 1 * r.val = R.val; rw [hi]; omega
  | ⟨1, _⟩ => show win0_1.index t 1 * 1 + 1 * 0 = 0; rw [hj]

/-- The packed codes' block at every point is the whole array. -/
theorem iblk2 (c : Dev nD) (t : Fin cfg0.N) :
    (iblk m c 2 t : Vec Ideal S2368x1920 .i8) = m ((c : Thread nD τ).loc main_arg2) := by
  have hz' : (fun a => win0_2.index t a * main_arg2.ty.shape.size a) = fun _ => 0 := funext fun a => by fin_cases a <;> rfl
  refine Eq.trans ?_ (V_main_arg2 m c)
  exact Memref.read_access_unit_zero (Elt Ideal) main_arg2 hz' (fun a => by rw [congrFun hz' a]; simp) (V m c main_arg2)

/-- The group scales' block at every point is the whole array. -/
theorem iblk3 (c : Dev nD) (t : Fin cfg0.N) :
    (iblk m c 3 t : Vec Ideal S37x1920 .i8) = m ((c : Thread nD τ).loc main_arg3) := by
  have hz' : (fun a => win0_3.index t a * main_arg3.ty.shape.size a) = fun _ => 0 := funext fun a => by fin_cases a <;> rfl
  refine Eq.trans ?_ (V_main_arg3 m c)
  exact Memref.read_access_unit_zero (Elt Ideal) main_arg3 hz' (fun a => by rw [congrFun hz' a]; simp) (V m c main_arg3)

/-- The group offsets' block at every point is the whole array. -/
theorem iblk4 (c : Dev nD) (t : Fin cfg0.N) :
    (iblk m c 4 t : Vec Ideal S37x1920 .i8) = m ((c : Thread nD τ).loc main_arg4) := by
  have hz' : (fun a => win0_4.index t a * main_arg4.ty.shape.size a) = fun _ => 0 := funext fun a => by fin_cases a <;> rfl
  refine Eq.trans ?_ (V_main_arg4 m c)
  exact Memref.read_access_unit_zero (Elt Ideal) main_arg4 hz' (fun a => by rw [congrFun hz' a]; simp) (V m c main_arg4)

/-- The column scales' block at every point is the whole array. -/
theorem iblk5 (c : Dev nD) (t : Fin cfg0.N) :
    (iblk m c 5 t : Vec Ideal S1x1920 .f32) = V m c main_v2 := by
  have hz' : (fun a => win0_5.index t a * main_v2.ty.shape.size a) = fun _ => 0 := funext fun a => by fin_cases a <;> rfl
  exact Memref.read_access_unit_zero (Elt Ideal) main_v2 hz' (fun a => by rw [congrFun hz' a]; simp) (V m c main_v2)

/-- The weights of the launched arguments. -/
abbrev weights (c : Dev nD) : Vec Ideal S4736x1920 .bf16 :=
  weight (m ((c : Thread nD τ).loc main_arg2)) (m ((c : Thread nD τ).loc main_arg3)) (m ((c : Thread nD τ).loc main_arg4))

/-- After every point the scratch buffer holds the weights. -/
theorem scratch_eq (c : Dev nD) : ∀ (n : ℕ) (h : n < cfg0.N), (outsAt0 m c n h).2 = weights m c
  | 0, h => by
    rw [outsAt0_A m c ⟨0, h⟩ rfl]
    dsimp only
    rw [sout_A, iblk2, iblk3, iblk4]
  | n + 1, h => by
    have hN : cfg0.N = 16 := N_0
    have hB : ¬(⟨n + 1, h⟩ : Fin cfg0.N).val % 16 = 0 := by dsimp only; omega
    rw [outsAt0_B m c ⟨n + 1, h⟩ hB]
    exact scratch_eq c n (Nat.lt_of_succ_lt h)

/-- What a point leaves in the output's buffer: the scaled product of its rows. -/
theorem out_eq (c : Dev nD) (t : Fin cfg0.N) :
    (outsAt0 m c t.val t.isLt).1 = k0_pay3 (iblk m c 0 t) (weights m c) (iblk m c 1 t) (iblk m c 5 t) := by
  by_cases h0 : t.val % 16 = 0
  · rw [outsAt0_A m c t h0]
    dsimp only
    rw [out_A, iblk2, iblk3, iblk4]
  · rw [outsAt0_B m c t h0]
    dsimp only
    rw [out_B, scratch_eq]

/-- The result array, as the scaled product of the arrays the region finds. -/
abbrev result (c : Dev nD) : Buf (Elt Ideal) ((c : Thread nD τ).loc main_v3) :=
  product (V m c main_v0) (V m c main_v1) (m ((c : Thread nD τ).loc main_arg2)) (m ((c : Thread nD τ).loc main_arg3))
    (m ((c : Thread nD τ).loc main_arg4)) (V m c main_v2)

/-- The block each point writes back is its rows of the result. -/
theorem flushed_eq (c : Dev nD) (t : Fin cfg0.N) (hf : (cfg0.win 6).flush t = true) :
    (dats m 0 c).flushed 6 t = ((cfg0.win 6).blk t).view.read (Elt Ideal) (result m c) := by
  have hN : cfg0.N = 16 := N_0
  have ht := t.isLt
  show (cfg0.win 6).cut (grid0.coords t) ((dats m 0 c).after 6 t) = _
  rw [after0_6, out_eq]
  funext j
  rw [View.read_apply]
  obtain ⟨r, l, rfl⟩ : ∃ (r : Fin 512) (l : Fin 1920), j = ix2 r l := ⟨j 0, j 1, eq_ix2 (n0 := 512) (n1 := 1920) j⟩
  have hi : win0_6.index t 0 = t.val := coord t
  have hj : win0_6.index t 1 = 0 := rfl
  have hr := r.isLt
  have hR : 512 * t.val + r.val < 8192 := by omega
  have e : ((cfg0.win 6).blk t).view.emb (ix2 r l) = (ix2 (⟨512 * t.val + r.val, hR⟩ : Fin 8192) l : S8192x1920.Idx) := by
    funext a
    apply Fin.ext
    match a with
    | ⟨0, _⟩ => show win0_6.index t 0 * 512 + 1 * r.val = 512 * t.val + r.val; rw [hi]; omega
    | ⟨1, _⟩ => show win0_6.index t 1 * 1920 + 1 * l.val = l.val; rw [hj]; omega
  rw [e]
  show k0_pay3 (iblk m c 0 t) (weights m c) (iblk m c 1 t) (iblk m c 5 t) (ix2 r l)
    = product _ _ _ _ _ _ (ix2 (⟨512 * t.val + r.val, hR⟩ : Fin 8192) l)
  rw [pay3_apply, iblk1 m c t r ⟨512 * t.val + r.val, hR⟩ rfl, iblk5]
  simp only [iblk0 m c t r _ ⟨512 * t.val + r.val, hR⟩ rfl]
  rfl

/-- So the result array ends holding the scaled product: row R is in the block of point R / 512. -/
theorem final_o (c : Dev nD) : (dats m 0 c).arrAt 6 cfg0.N = result m c :=
  (dats m 0 c).arrAt_eq_of_cover 6 (result m c) (flushed_eq m c) fun i => by
    have hN : cfg0.N = 16 := N_0
    have h0 : (i 0 : Nat) < 8192 := (i 0).isLt
    have h1 : (i 1 : Nat) < 1920 := (i 1).isLt
    have hq : (i 0 : Nat) / 512 < cfg0.N := by omega
    refine ⟨⟨(i 0 : Nat) / 512, hq⟩, flush0_6 _, ?_⟩
    show i ∈ ((View.whole main_v3).slice (win0_6.rect ⟨(i 0 : Nat) / 512, hq⟩)).set
    rw [View.set_slice_whole, Rect.mem_set_unit]
    intro a
    have hi : win0_6.index ⟨(i 0 : Nat) / 512, hq⟩ 0 = (i 0 : Nat) / 512 := coord ⟨(i 0 : Nat) / 512, hq⟩
    have hj : win0_6.index ⟨(i 0 : Nat) / 512, hq⟩ 1 = 0 := rfl
    match a with
    | ⟨0, _⟩ =>
      show win0_6.index ⟨(i 0 : Nat) / 512, hq⟩ 0 * 512 ≤ (i 0 : Nat) ∧ (i 0 : Nat) < win0_6.index ⟨(i 0 : Nat) / 512, hq⟩ 0 * 512 + 512
      rw [hi]; omega
    | ⟨1, _⟩ =>
      show win0_6.index ⟨(i 0 : Nat) / 512, hq⟩ 1 * 1920 ≤ (i 1 : Nat) ∧ (i 1 : Nat) < win0_6.index ⟨(i 0 : Nat) / 512, hq⟩ 1 * 1920 + 1920
      rw [hj]; omega

/-- The program's result, from its arguments: activations and scales flattened to rows, the scaled product, and the rows
    folded back to the four batches. -/
def value (x : Vec Ideal S4x2048x4736 .i8) (xs : Vec Ideal S4x2048 .f32) (p : Vec Ideal S2368x1920 .i8)
    (gs gz : Vec Ideal S37x1920 .i8) (cs : Vec Ideal S1920 .f32) : Vec Ideal S4x2048x1920 .bf16 :=
  shapeCast S4x2048x1920 (product (shapeCast S8192x4736 x shapeCasts_S4x2048x4736_S8192x4736)
    (shapeCast S8192x1 xs shapeCasts_S4x2048_S8192x1) p gs gz (shapeCast S1x1920 cs shapeCasts_S1920_S1x1920))
    shapeCasts_S8192x1920_S4x2048x1920

/-- After the last host line the program's result is `value` of the arguments. -/
theorem tail_eq (c : Dev nD) :
    Pipeline.afterTail₀ cfgs (dats m) 0 (V0 m) [hostOps1] c main_v4
      = value (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e0 : (V m c main_v0 : Vec Ideal S8192x4736 .i8) = shapeCast S8192x4736 (m ((c : Thread nD τ).loc main_arg0)) shapeCasts_S4x2048x4736_S8192x4736 := by
    entry_read; rfl
  have e1 : (V m c main_v1 : Vec Ideal S8192x1 .f32) = shapeCast S8192x1 (m ((c : Thread nD τ).loc main_arg1)) shapeCasts_S4x2048_S8192x1 := by
    entry_read; rfl
  have e2 : (V m c main_v2 : Vec Ideal S1x1920 .f32) = shapeCast S1x1920 (m ((c : Thread nD τ).loc main_arg5)) shapeCasts_S1920_S1x1920 := by
    entry_read; rfl
  have h3 : Pipeline.withArrays (cfgs 0).spec c (V0 m c) (fun w => (dats m 0 c).arrAt w (cfgs 0).N) (Proc.devRef .tc main_v3)
      = result m c :=
    (Pipeline.withArrays_arr spec0 launch0.win.arr_inj c (V0 m c) (fun w => (dats m 0 c).arrAt w (cfgs 0).N) 6).trans (final_o m c)
  unfold Pipeline.afterTail₀
  simp only [List.flatten_cons, List.flatten_nil, List.append_nil, hostOps1]
  rw [StableHlo.after_cons, StableHlo.after_nil, StableHlo.reshape_result, h3]
  unfold value
  rw [← e0, ← e1, ← e2]
  rfl

/-- The run: every execution ends with the result at `value` of the arguments and the arguments unchanged. -/
theorem run : θ_run defs (onTc (τ := τ) (main (F := Ideal))) ⟨m, fun _ => 0, ρ⟩ (fun r => ∀ c : Dev nD,
      r.2.mem ((c.tc : Thread nD τ).loc main_v4)
        = value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).2 main_v4 (Pipeline.mem_restRefs_of main_v4 (by decide) (by decide)) |>.trans (tail_eq m c), h.2 c⟩)
    (θ_run_and (run_main m ρ) (unchanged m ρ))

end Cert.KernelIdeal.Val

end
-- ==== Proof.Reference.lean ====
/-
  What the reference computes, read at an index: the same scaled product as the kernel's program.
-/
module

public import proofs.«01_k».proof.Proof.Value
public import proofs.«01_k».proof.Proof.Gen.ReferenceIdeal.Run

@[expose] public section

set_option maxRecDepth 16384

noncomputable section

namespace Cert.ReferenceIdeal.Val

open Idealize.ShloMosaic Idealize.ShloMosaic.TcCoe Idealize.SL.Sem Cert.ReferenceIdeal Cert.ReferenceIdeal.Gen
open Cert.KernelIdeal.Val (codeLo codeHi byteVal weight product value)

/-- A byte widened with zeros, as a signed number. -/
theorem wide_byte (b : BitVec 8) : (b.setWidth 32).toInt = (b.toNat : ℤ) := by
  revert b; decide

/-- The low four bits of a widened byte, as a signed number. -/
theorem wide_lo (b : BitVec 8) : (b.setWidth 32 &&& 15#32).toInt = ((b &&& 15#8).toNat : ℤ) := by
  revert b; decide

/-- A widened byte shifted down by four, as a signed number. -/
theorem wide_hi (b : BitVec 8) : (IntOp.shrsi ArithUnit.host (b.setWidth 32) 4#32).toInt = ((b >>> 4).toNat : ℤ) := by
  show ((b.setWidth 32).sshiftRight' 4#32).toInt = ((b >>> 4).toNat : ℤ)
  revert b; decide

/-- A byte widened with its sign, as a signed number. -/
theorem wide_signed (b : BitVec 8) : (b.signExtend 32).toInt = b.toInt := by
  revert b; decide

/-- The codes: the packed bytes' low codes, then their high codes. -/
def codes (p : Vec Ideal S2368x1920 .i8) : Vec Ideal S4736x1920 .i32 :=
  concatenate S4736x1920 0 [⟨S2368x1920, (andi (extui 32 p natLt_8_32) (broadcastInDim S2368x1920 ![] bcast_S_S2368x1920 (constantI S_ 32 15#32)))⟩, ⟨S2368x1920, (Host.shrsi (extui 32 p natLt_8_32) (broadcastInDim S2368x1920 ![] bcast_S_S2368x1920 (constantI S_ 32 4#32)))⟩] concatenates_S2368x1920_S2368x1920_S4736x1920_d0

/-- A row of group bytes spread over the group's 128 rows. -/
def groups (g : Vec Ideal S37x1920 .i8) : FVec Ideal S37x128x1920 .bf16 :=
  broadcastInDim S37x128x1920 ![0, 1, 2] bcast_S37x1x1920_S37x128x1920_0_1_2 (broadcastInDim S37x1x1920 ![0, 2] bcast_S37x1920_S37x1x1920_0_2 (sitofp (F := Ideal) .bf16 (extui 32 g natLt_8_32)))

/-- The reference's weights. -/
def weights (p : Vec Ideal S2368x1920 .i8) (gs gz : Vec Ideal S37x1920 .i8) : FVec Ideal S4736x1920 .bf16 :=
  shapeCast _ (subf (mulf (sitofp (F := Ideal) .bf16 (shapeCast _ (codes p) shapeCasts_S4736x1920_S37x128x1920)) (groups gs)) (groups gz)) shapeCasts_S37x128x1920_S4736x1920

/-- The low code of a widened byte, converted. -/
theorem conv_lo (b : BitVec 8) :
    (FloatOps.sitofp FTy.bf16 (IntOp.andi (b.setWidth 32) 15#32) : Ideal .bf16) = codeLo b := by
  show (((b.setWidth 32 &&& 15#32).toInt : ℝ) : EReal) = (((b &&& 15#8).toNat : ℝ) : EReal)
  rw [wide_lo, Int.cast_natCast]

/-- The high code of a widened byte, converted. -/
theorem conv_hi (b : BitVec 8) :
    (FloatOps.sitofp FTy.bf16 (IntOp.shrsi ArithUnit.host (b.setWidth 32) 4#32) : Ideal .bf16) = codeHi b := by
  show (((IntOp.shrsi ArithUnit.host (b.setWidth 32) 4#32).toInt : ℝ) : EReal) = (((b >>> 4).toNat : ℝ) : EReal)
  rw [wide_hi, Int.cast_natCast]

/-- A widened byte, converted. -/
theorem conv_byte (b : BitVec 8) : (FloatOps.sitofp FTy.bf16 (b.setWidth 32) : Ideal .bf16) = byteVal b := by
  show (((b.setWidth 32).toInt : ℝ) : EReal) = ((b.toNat : ℝ) : EReal)
  rw [wide_byte, Int.cast_natCast]

/-- A byte widened with its sign, converted. -/
theorem conv_signed (b : BitVec 8) : (FloatOps.sitofp FTy.bf16 (b.signExtend 32) : Ideal .bf16) = ((b.toInt : ℝ) : EReal) := by
  show (((b.signExtend 32).toInt : ℝ) : EReal) = _
  rw [wide_signed]

/-- The reference's weights are the kernel's, at every row and column. -/
theorem weights_apply (p : Vec Ideal S2368x1920 .i8) (gs gz : Vec Ideal S37x1920 .i8) (k : Fin 4736) (n : Fin 1920) :
    weights p gs gz (ix2 k n) = weight p gs gz (ix2 k n) := by
  unfold weights codes groups
  pointwise
  rw [conv_byte, conv_byte]
  split
  · next h => rw [conv_lo]; exact (Cert.KernelIdeal.Val.weight_lo p gs gz k n ⟨k.val, h⟩ ⟨k.val / 128, by omega⟩ rfl rfl).symm
  · next h => rw [conv_hi]; exact (Cert.KernelIdeal.Val.weight_hi p gs gz k n ⟨k.val - 2368, by omega⟩ ⟨k.val / 128, by omega⟩ (by dsimp only; omega) rfl).symm

/-- The reference's first 1024 columns. -/
def left (x : Vec Ideal S8192x4736 .i8) (xs : FVec Ideal S8192x1 .f32) (w : FVec Ideal S4736x1920 .bf16)
    (cs : FVec Ideal S1920 .f32) : FVec Ideal S8192x1024 .bf16 :=
  truncf .bf16 (mulf (mulf (Host.dotGeneral dot_S8192x4736_S4736x1024_S8192x1024_1_0_0_1_n_n none (sitofp (F := Ideal) .bf16 (extsi 32 x natLt_8_32)) (extractStridedSlice S4736x1024 ![0, 0] w slices_S4736x1920_S4736x1024_0_0)) (broadcastInDim S8192x1024 ![0, 1] bcast_S8192x1_S8192x1024_0_1 xs)) (broadcastInDim S8192x1024 ![0, 1] bcast_S1x1024_S8192x1024_0_1 (broadcastInDim S1x1024 ![1] bcast_S1024_S1x1024_1 (extractStridedSlice S1024 ![0] cs slices_S1920_S1024_0)))) bitsLt_bf16_f32

/-- The reference's last 896 columns. -/
def right (x : Vec Ideal S8192x4736 .i8) (xs : FVec Ideal S8192x1 .f32) (w : FVec Ideal S4736x1920 .bf16)
    (cs : FVec Ideal S1920 .f32) : FVec Ideal S8192x896 .bf16 :=
  truncf .bf16 (mulf (mulf (Host.dotGeneral dot_S8192x4736_S4736x896_S8192x896_1_0_0_1_n_n none (sitofp (F := Ideal) .bf16 (extsi 32 x natLt_8_32)) (extractStridedSlice S4736x896 ![0, 1024] w slices_S4736x1920_S4736x896_0_1024)) (broadcastInDim S8192x896 ![0, 1] bcast_S8192x1_S8192x896_0_1 xs)) (broadcastInDim S8192x896 ![0, 1] bcast_S1x896_S8192x896_0_1 (broadcastInDim S1x896 ![1] bcast_S896_S1x896_1 (extractStridedSlice S896 ![1024] cs slices_S1920_S896_1024)))) bitsLt_bf16_f32

/-- The first columns at an index: the scaled sum over the inner axis. -/
theorem left_apply (x : Vec Ideal S8192x4736 .i8) (xs : FVec Ideal S8192x1 .f32) (w : FVec Ideal S4736x1920 .bf16)
    (cs : FVec Ideal S1920 .f32) (R : Fin 8192) (n : Fin 1024) (n' : Fin 1920) (hn : n'.val = n.val) :
    left x xs w cs (ix2 R n) = ((∑ k : Fin 4736, (((x (ix2 R k)).toInt : ℝ) : EReal) * w (ix2 k n')) * xs (ix2 R (0 : Fin 1))) * cs (ix1 n') := by
  have e : n' = ⟨n.val, by omega⟩ := Fin.ext hn
  rw [e]
  unfold left
  pointwise
  simp only [conv_signed]

/-- The last columns at an index: the scaled sum over the inner axis. -/
theorem right_apply (x : Vec Ideal S8192x4736 .i8) (xs : FVec Ideal S8192x1 .f32) (w : FVec Ideal S4736x1920 .bf16)
    (cs : FVec Ideal S1920 .f32) (R : Fin 8192) (n : Fin 896) (n' : Fin 1920) (hn : n'.val = 1024 + n.val) :
    right x xs w cs (ix2 R n) = ((∑ k : Fin 4736, (((x (ix2 R k)).toInt : ℝ) : EReal) * w (ix2 k n')) * xs (ix2 R (0 : Fin 1))) * cs (ix1 n') := by
  have e : n' = ⟨1024 + n.val, by omega⟩ := Fin.ext hn
  rw [e]
  unfold right
  pointwise
  simp only [conv_signed]

/-- The reference's result before the batches are folded back. -/
def joined (x : Vec Ideal S8192x4736 .i8) (xs : FVec Ideal S8192x1 .f32) (w : FVec Ideal S4736x1920 .bf16)
    (cs : FVec Ideal S1920 .f32) : FVec Ideal S8192x1920 .bf16 :=
  concatenate S8192x1920 1 [⟨S8192x1024, left x xs w cs⟩, ⟨S8192x896, right x xs w cs⟩] concatenates_S8192x1024_S8192x896_S8192x1920_d1

/-- The two column ranges side by side are the kernel's scaled product. -/
theorem joined_eq (x : Vec Ideal S8192x4736 .i8) (xs : FVec Ideal S8192x1 .f32) (p : Vec Ideal S2368x1920 .i8)
    (gs gz : Vec Ideal S37x1920 .i8) (cs : FVec Ideal S1920 .f32) (h : S1920.ShapeCasts Cert.KernelIdeal.S1x1920) :
    joined x xs (weights p gs gz) cs = product x xs p gs gz (shapeCast Cert.KernelIdeal.S1x1920 cs h) := by
  funext j
  obtain ⟨R, n, rfl⟩ : ∃ (R : Fin 8192) (n : Fin 1920), j = ix2 R n := ⟨j 0, j 1, eq_ix2 (n0 := 8192) (n1 := 1920) j⟩
  unfold joined
  have hp : product x xs p gs gz (shapeCast Cert.KernelIdeal.S1x1920 cs h) (ix2 R n)
      = ((∑ k : Fin 4736, (((x (ix2 R k)).toInt : ℝ) : EReal) * weights p gs gz (ix2 k n)) * xs (ix2 R (0 : Fin 1))) * cs (ix1 n) := by
    simp only [weights_apply]
    show (_ * _) * shapeCast Cert.KernelIdeal.S1x1920 cs h (ix2 (0 : Fin 1) n) = _
    have e : shapeCast Cert.KernelIdeal.S1x1920 cs h (ix2 (0 : Fin 1) n) = cs (ix1 n) := by pointwise
    rw [e]
    rfl
  rw [hp, concatenate_pair_apply]
  split
  · next hlt =>
    have hn : n.val < 1024 := hlt
    refine (congrArg (left x xs (weights p gs gz) cs) (?_ : _ = (ix2 R ⟨n.val, hn⟩ : S8192x1024.Idx))).trans
      (left_apply x xs (weights p gs gz) cs R ⟨n.val, hn⟩ n rfl)
    funext b
    match b with
    | ⟨0, _⟩ => rfl
    | ⟨1, _⟩ => rfl
  · next hlt =>
    have hn : ¬ n.val < 1024 := hlt
    refine (congrArg (right x xs (weights p gs gz) cs) (?_ : _ = (ix2 R ⟨n.val - 1024, by omega⟩ : S8192x896.Idx))).trans
      (right_apply x xs (weights p gs gz) cs R ⟨n.val - 1024, by omega⟩ n (by dsimp only; omega))
    funext b
    match b with
    | ⟨0, _⟩ => rfl
    | ⟨1, _⟩ => rfl

/-- The run: every execution ends with the result at the kernel's `value` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (Cert.ReferenceIdeal.Value.run (F := Ideal) m ρ)
  unfold value
  rw [← joined_eq]
  rfl

end Cert.ReferenceIdeal.Val

end
-- ==== Proof.lean ====
/-
  The proof of the claim: the kernel's program and its ideal reading run and leave their arguments unchanged, so does the
  reference, and over the extended reals the kernel's program and the reference end with the same result.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Nibbles
public import proofs.«01_k».proof.Proof.Trip
public import proofs.«01_k».proof.Proof.Scratch
public import proofs.«01_k».proof.Proof.Value
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Val.run m ρ)

/-- From arguments that agree, the kernel's program and the reference end with the same result, element by element over
    the extended reals, and leave their arguments unchanged. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.Val.run m ρ, ?_⟩
  refine (θ_run Cert.ReferenceIdeal.defs _ _).mono (fun _ h c => ⟨(h c).1.trans ?_, (h c).2⟩) (Cert.ReferenceIdeal.Val.run m' ρ')
  obtain ⟨h0, h1, h2, h3, h4, h5⟩ := hagree c
  rw [h0, h1, h2, h3, h4, h5]

/-- Every claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
